-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x75x52x52 : Shape := ⟨4, ![32, 75, 52, 52]⟩
abbrev S3x2 : Shape := ⟨2, ![3, 2]⟩
abbrev S32x8112x25 : Shape := ⟨3, ![32, 8112, 25]⟩
abbrev S4x75x52x52 : Shape := ⟨4, ![4, 75, 52, 52]⟩
abbrev S4x2704x25 : Shape := ⟨3, ![4, 2704, 25]⟩
abbrev S1x2704 : Shape := ⟨2, ![1, 2704]⟩
abbrev S2x2704 : Shape := ⟨2, ![2, 2704]⟩
abbrev S1x1 : Shape := ⟨2, ![1, 1]⟩
abbrev S2x1 : Shape := ⟨2, ![2, 1]⟩
abbrev S1x25x52x52 : Shape := ⟨4, ![1, 25, 52, 52]⟩
abbrev S25x52x52 : Shape := ⟨3, ![25, 52, 52]⟩
abbrev S25x2704 : Shape := ⟨2, ![25, 2704]⟩
abbrev S21x2704 : Shape := ⟨2, ![21, 2704]⟩
abbrev S2704x25 : Shape := ⟨2, ![2704, 25]⟩
abbrev S1x2704x25 : Shape := ⟨3, ![1, 2704, 25]⟩

abbrev nBuf : Space → Nat
  | .hbm => 3
  | .vmem => 4
  | .smem => 1
  | _ => 0

abbrev bufTy : (tb : Table) → Fin (tcTables nBuf tb) → BufTy
  | .hbm, ⟨0, _⟩ => ⟨S32x75x52x52, .f32⟩
  | .hbm, ⟨1, _⟩ => ⟨S3x2, .f32⟩
  | .hbm, ⟨2, _⟩ => ⟨S32x8112x25, .f32⟩
  | .local _ .vmem, ⟨0, _⟩ => ⟨S4x75x52x52, .f32⟩
  | .local _ .vmem, ⟨1, _⟩ => ⟨S4x75x52x52, .f32⟩
  | .local _ .vmem, ⟨2, _⟩ => ⟨S4x2704x25, .f32⟩
  | .local _ .vmem, ⟨3, _⟩ => ⟨S4x2704x25, .f32⟩
  | .local _ .smem, ⟨0, _⟩ => ⟨S3x2, .f32⟩
  | _, _ => ⟨S32x75x52x52, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v11 : BitVec 32 := Scalar.maxsi arg1 c0_i32
  let c2_i32 : BitVec 32 := 2#32
  let v12 : BitVec 32 := Scalar.minsi v11 c2_i32
  let c0_i32_2 : BitVec 32 := 0#32
  let v13 : BitVec 1 := Scalar.cmpi .ne v12 c0_i32_2
  v13

def k0_cond2 (i : grid0.Coords) : BitVec 1 :=
  let arg1 : BitVec 32 := BitVec.ofNat 32 (i 1).val
  let c0_i32 : BitVec 32 := 0#32
  let v11 : BitVec 32 := Scalar.maxsi arg1 c0_i32
  let c2_i32 : BitVec 32 := 2#32
  let v12 : BitVec 32 := Scalar.minsi v11 c2_i32
  let c1_i32 : BitVec 32 := 1#32
  let v14 : BitVec 32 := Scalar.subi v12 c1_i32
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S3x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x75x52x52 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x2704x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S32x75x52x52 : Shape := ⟨4, ![32, 75, 52, 52]⟩
abbrev S3x2 : Shape := ⟨2, ![3, 2]⟩
abbrev S32x3x25x52x52 : Shape := ⟨5, ![32, 3, 25, 52, 52]⟩
abbrev S32x3x52x52x25 : Shape := ⟨5, ![32, 3, 52, 52, 25]⟩
abbrev S32x3x52x52x1 : Shape := ⟨5, ![32, 3, 52, 52, 1]⟩
abbrev S32x3x52x52 : Shape := ⟨4, ![32, 3, 52, 52]⟩
abbrev S_ : Shape := ⟨0, ![]⟩
abbrev S32x3x52x52x20 : Shape := ⟨5, ![32, 3, 52, 52, 20]⟩
abbrev S52 : Shape := ⟨1, ![52]⟩
abbrev S1x52 : Shape := ⟨2, ![1, 52]⟩
abbrev S1x1x1x52 : Shape := ⟨4, ![1, 1, 1, 52]⟩
abbrev S52x1x1x52 : Shape := ⟨4, ![52, 1, 1, 52]⟩
abbrev S52x52 : Shape := ⟨2, ![52, 52]⟩
abbrev S1x1x52x52 : Shape := ⟨4, ![1, 1, 52, 52]⟩
abbrev S3x1 : Shape := ⟨2, ![3, 1]⟩
abbrev S3 : Shape := ⟨1, ![3]⟩
abbrev S1x3x1x1 : Shape := ⟨4, ![1, 3, 1, 1]⟩
abbrev S32x3x52x52x4 : Shape := ⟨5, ![32, 3, 52, 52, 4]⟩
abbrev S32x8112x4 : Shape := ⟨3, ![32, 8112, 4]⟩
abbrev S32x8112x1 : Shape := ⟨3, ![32, 8112, 1]⟩
abbrev S32x8112x20 : Shape := ⟨3, ![32, 8112, 20]⟩
abbrev S32x8112x25 : Shape := ⟨3, ![32, 8112, 25]⟩

abbrev nBuf : Space → Nat
  | .hbm => 91
  | .vmem => 0
  | .smem => 0
  | _ => 0

abbrev bufTy : (tb : Table) → Fin (tcTables nBuf tb) → BufTy
  | .hbm, ⟨0, _⟩ => ⟨S32x75x52x52, .f32⟩
  | .hbm, ⟨1, _⟩ => ⟨S3x2, .f32⟩
  | .hbm, ⟨2, _⟩ => ⟨S32x3x25x52x52, .f32⟩
  | .hbm, ⟨3, _⟩ => ⟨S32x3x52x52x25, .f32⟩
  | .hbm, ⟨4, _⟩ => ⟨S32x3x52x52x1, .f32⟩
  | .hbm, ⟨5, _⟩ => ⟨S32x3x52x52, .f32⟩
  | .hbm, ⟨6, _⟩ => ⟨S32x3x52x52, .f32⟩
  | .hbm, ⟨7, _⟩ => ⟨S32x3x52x52, .f32⟩
  | .hbm, ⟨8, _⟩ => ⟨S_, .f32⟩
  | .hbm, ⟨9, _⟩ => ⟨S32x3x52x52, .f32⟩
  | .hbm, ⟨10, _⟩ => ⟨S32x3x52x52, .f32⟩
  | .hbm, ⟨11, _⟩ => ⟨S_, .f32⟩
  | .hbm, ⟨12, _⟩ => ⟨S32x3x52x52, .f32⟩
  | .hbm, ⟨13, _⟩ => ⟨S32x3x52x52, .f32⟩
  | .hbm, ⟨14, _⟩ => ⟨S32x3x52x52x1, .f32⟩
  | .hbm, ⟨15, _⟩ => ⟨S32x3x52x52, .f32⟩
  | .hbm, ⟨16, _⟩ => ⟨S32x3x52x52, .f32⟩
  | .hbm, ⟨17, _⟩ => ⟨S32x3x52x52, .f32⟩
  | .hbm, ⟨18, _⟩ => ⟨S_, .f32⟩
  | .hbm, ⟨19, _⟩ => ⟨S32x3x52x52, .f32⟩
  | .hbm, ⟨20, _⟩ => ⟨S32x3x52x52, .f32⟩
  | .hbm, ⟨21, _⟩ => ⟨S_, .f32⟩
  | .hbm, ⟨22, _⟩ => ⟨S32x3x52x52, .f32⟩
  | .hbm, ⟨23, _⟩ => ⟨S32x3x52x52, .f32⟩
  | .hbm, ⟨24, _⟩ => ⟨S32x3x52x52x1, .f32⟩
  | .hbm, ⟨25, _⟩ => ⟨S32x3x52x52, .f32⟩
  | .hbm, ⟨26, _⟩ => ⟨S32x3x52x52x1, .f32⟩
  | .hbm, ⟨27, _⟩ => ⟨S32x3x52x52, .f32⟩
  | .hbm, ⟨28, _⟩ => ⟨S32x3x52x52x1, .f32⟩
  | .hbm, ⟨29, _⟩ => ⟨S32x3x52x52, .f32⟩
  | .hbm, ⟨30, _⟩ => ⟨S32x3x52x52, .f32⟩
  | .hbm, ⟨31, _⟩ => ⟨S32x3x52x52, .f32⟩
  | .hbm, ⟨32, _⟩ => ⟨S_, .f32⟩
  | .hbm, ⟨33, _⟩ => ⟨S32x3x52x52, .f32⟩
  | .hbm, ⟨34, _⟩ => ⟨S32x3x52x52, .f32⟩
  | .hbm, ⟨35, _⟩ => ⟨S_, .f32⟩
  | .hbm, ⟨36, _⟩ => ⟨S32x3x52x52, .f32⟩
  | .hbm, ⟨37, _⟩ => ⟨S32x3x52x52, .f32⟩
  | .hbm, ⟨38, _⟩ => ⟨S32x3x52x52x20, .f32⟩
  | .hbm, ⟨39, _⟩ => ⟨S32x3x52x52x20, .f32⟩
  | .hbm, ⟨40, _⟩ => ⟨S32x3x52x52x20, .f32⟩
  | .hbm, ⟨41, _⟩ => ⟨S_, .f32⟩
  | .hbm, ⟨42, _⟩ => ⟨S32x3x52x52x20, .f32⟩
  | .hbm, ⟨43, _⟩ => ⟨S32x3x52x52x20, .f32⟩
  | .hbm, ⟨44, _⟩ => ⟨S_, .f32⟩
  | .hbm, ⟨45, _⟩ => ⟨S32x3x52x52x20, .f32⟩
  | .hbm, ⟨46, _⟩ => ⟨S32x3x52x52x20, .f32⟩
  | .hbm, ⟨47, _⟩ => ⟨S52, .f32⟩
  | .hbm, ⟨48, _⟩ => ⟨S1x52, .f32⟩
  | .hbm, ⟨49, _⟩ => ⟨S1x1x1x52, .f32⟩
  | .hbm, ⟨50, _⟩ => ⟨S52x1x1x52, .f32⟩
  | .hbm, ⟨51, _⟩ => ⟨S52x52, .f32⟩
  | .hbm, ⟨52, _⟩ => ⟨S1x1x52x52, .f32⟩
  | .hbm, ⟨53, _⟩ => ⟨S52, .f32⟩
  | .hbm, ⟨54, _⟩ => ⟨S1x52, .f32⟩
  | .hbm, ⟨55, _⟩ => ⟨S1x1x1x52, .f32⟩
  | .hbm, ⟨56, _⟩ => ⟨S52x1x1x52, .f32⟩
  | .hbm, ⟨57, _⟩ => ⟨S52x52, .f32⟩
  | .hbm, ⟨58, _⟩ => ⟨S52x52, .f32⟩
  | .hbm, ⟨59, _⟩ => ⟨S1x1x52x52, .f32⟩
  | .hbm, ⟨60, _⟩ => ⟨S_, .f32⟩
  | .hbm, ⟨61, _⟩ => ⟨S3x2, .f32⟩
  | .hbm, ⟨62, _⟩ => ⟨S3x2, .f32⟩
  | .hbm, ⟨63, _⟩ => ⟨S3x1, .f32⟩
  | .hbm, ⟨64, _⟩ => ⟨S3, .f32⟩
  | .hbm, ⟨65, _⟩ => ⟨S1x3x1x1, .f32⟩
  | .hbm, ⟨66, _⟩ => ⟨S3x1, .f32⟩
  | .hbm, ⟨67, _⟩ => ⟨S3, .f32⟩
  | .hbm, ⟨68, _⟩ => ⟨S1x3x1x1, .f32⟩
  | .hbm, ⟨69, _⟩ => ⟨S32x3x52x52, .f32⟩
  | .hbm, ⟨70, _⟩ => ⟨S32x3x52x52, .f32⟩
  | .hbm, ⟨71, _⟩ => ⟨S32x3x52x52, .f32⟩
  | .hbm, ⟨72, _⟩ => ⟨S32x3x52x52, .f32⟩
  | .hbm, ⟨73, _⟩ => ⟨S32x3x52x52, .f32⟩
  | .hbm, ⟨74, _⟩ => ⟨S32x3x52x52, .f32⟩
  | .hbm, ⟨75, _⟩ => ⟨S32x3x52x52, .f32⟩
  | .hbm, ⟨76, _⟩ => ⟨S32x3x52x52, .f32⟩
  | .hbm, ⟨77, _⟩ => ⟨S32x3x52x52, .f32⟩
  | .hbm, ⟨78, _⟩ => ⟨S32x3x52x52, .f32⟩
  | .hbm, ⟨79, _⟩ => ⟨S32x3x52x52x1, .f32⟩
  | .hbm, ⟨80, _⟩ => ⟨S32x3x52x52x1, .f32⟩
  | .hbm, ⟨81, _⟩ => ⟨S32x3x52x52x1, .f32⟩
  | .hbm, ⟨82, _⟩ => ⟨S32x3x52x52x1, .f32⟩
  | .hbm, ⟨83, _⟩ => ⟨S32x3x52x52x4, .f32⟩
  | .hbm, ⟨84, _⟩ => ⟨S32x8112x4, .f32⟩
  | .hbm, ⟨85, _⟩ => ⟨S_, .f32⟩
  | .hbm, ⟨86, _⟩ => ⟨S32x8112x4, .f32⟩
  | .hbm, ⟨87, _⟩ => ⟨S32x8112x4, .f32⟩
  | .hbm, ⟨88, _⟩ => ⟨S32x8112x1, .f32⟩
  | .hbm, ⟨89, _⟩ => ⟨S32x8112x20, .f32⟩
  | .hbm, ⟨90, _⟩ => ⟨S32x8112x25, .f32⟩
  | _, _ => ⟨S32x75x52x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_cst_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_7 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_8 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩

abbrev nD : Nat := 1
abbrev τ : Topo := Topo.v7x

variable {F : FTy → Type} [FloatOps F]
-- ==== Proof.Numbers.lean ====
/- The numbers of the decoding: the constants of both programs read as extended reals, an integer
   position turned into a float, and the one place where the kernel computes a quotient of integers by a
   rounded multiplication: the row of position `p` in the 52 × 52 grid is
   `floor ((p + 1/2) * c)`, with `c` the 32-bit float nearest to 1/52, and that is exactly `p / 52` for
   every position of the grid. -/
module

public import Idealize.ShloMosaic.Lib.Pointwise
public import Idealize.ShloMosaic.Lib.IdealHost

@[expose] public section

set_option maxRecDepth 16384

noncomputable section

namespace Cert.Decode

open Idealize.ShloMosaic

/-! ## The constants -/

/-- The pattern of 1/2. -/
theorem ofBits_half : Ideal.ofBits .f32 0x3F000000#32 = (((1 : ℝ) / 2 : ℝ) : EReal) := by
  simp [Ideal.ofBits, Ideal.ieee, -EReal.coe_mul]; norm_num

/-- The pattern of 8, the width of a grid cell in pixels. -/
theorem ofBits_eight : Ideal.ofBits .f32 0x41000000#32 = ((8 : ℝ) : EReal) := by
  simp [Ideal.ofBits, Ideal.ieee, -EReal.coe_mul]; norm_num

/-- The pattern of 52, the extent of the grid. -/
theorem ofBits_extent : Ideal.ofBits .f32 0x42500000#32 = ((52 : ℝ) : EReal) := by
  simp [Ideal.ofBits, Ideal.ieee, -EReal.coe_mul]; norm_num

/-- The pattern of the float nearest to 1/52: 10324441 / 2 ^ 29, a little more than 1/52. -/
theorem ofBits_recip : Ideal.ofBits .f32 0x3C9D89D9#32 = (((10324441 : ℝ) / 536870912 : ℝ) : EReal) := by
  simp [Ideal.ofBits, Ideal.ieee, -EReal.coe_mul]; norm_num

/-- A small natural number, as a 32-bit integer turned into a float, is itself. -/
theorem sitofp_nat (p : ℕ) (hp : p < 2704) :
    FloatOps.sitofp (F := Ideal) FTy.f32 (BitVec.ofNat 32 p) = ((p : ℝ) : EReal) := by
  have h : (BitVec.ofNat 32 p).toInt = (p : ℤ) := by
    rw [BitVec.toInt_eq_toNat_of_lt] <;> simp only [BitVec.toNat_ofNat] <;> omega
  show ((((BitVec.ofNat 32 p).toInt : ℤ) : ℝ) : EReal) = _
  rw [h, Int.cast_natCast]

/-! ## The row and the column of a position -/

/-- The rounded multiplication finds the row: the error of the constant, less than one part
    in 2 ^ 24, moves `(p + 1/2) / 52` by far less than its distance 1/104 from the next integer. -/
theorem floor_row (p : ℕ) (hp : p < 2704) :
    ⌊((p : ℝ) + 1 / 2) * (10324441 / 536870912)⌋ = ((p / 52 : ℕ) : ℤ) := by
  have h1 : (p / 52) * 1073741824 ≤ (2 * p + 1) * 10324441 := by omega
  have h2 : (2 * p + 1) * 10324441 < (p / 52 + 1) * 1073741824 := by omega
  generalize p / 52 = q at h1 h2
  have h1' : (q : ℝ) * 1073741824 ≤ (2 * (p : ℝ) + 1) * 10324441 := by exact_mod_cast h1
  have h2' : (2 * (p : ℝ) + 1) * 10324441 < ((q : ℝ) + 1) * 1073741824 := by exact_mod_cast h2
  rw [Int.floor_eq_iff, Int.cast_natCast]
  constructor <;> linarith

/-- The row of position `p`, in the words of the kernel. -/
theorem row_eq (p : ℕ) (hp : p < 2704) :
    Ideal.liftRound Int.floor
        ((FloatOps.sitofp (F := Ideal) FTy.f32 (BitVec.ofNat 32 p) + Ideal.ofBits FTy.f32 0x3F000000#32)
          * Ideal.ofBits FTy.f32 0x3C9D89D9#32)
      = (((p / 52 : ℕ) : ℝ) : EReal) := by
  rw [sitofp_nat p hp, ofBits_half, ofBits_recip, ← EReal.coe_add, ← EReal.coe_mul]
  show (((⌊((p : ℝ) + 1 / 2) * (10324441 / 536870912)⌋ : ℤ) : ℝ) : EReal) = _
  rw [floor_row p hp, Int.cast_natCast]

/-- The column of position `p`, in the words of the kernel: the position less 52 times its row. -/
theorem col_eq (p : ℕ) (hp : p < 2704) :
    FloatOps.sitofp (F := Ideal) FTy.f32 (BitVec.ofNat 32 p)
        - Ideal.ofBits FTy.f32 0x42500000#32 * (((p / 52 : ℕ) : ℝ) : EReal)
      = (((p % 52 : ℕ) : ℝ) : EReal) := by
  rw [sitofp_nat p hp, ofBits_extent, ← EReal.coe_mul, ← EReal.coe_sub]
  have h : 52 * (p / 52) + p % 52 = p := Nat.div_add_mod p 52
  have h' : (52 : ℝ) * ((p / 52 : ℕ) : ℝ) + ((p % 52 : ℕ) : ℝ) = (p : ℝ) := by exact_mod_cast h
  congr 1
  linarith

/-! ## The size of a box -/

/-- The reference divides an anchor's size by 8 and multiplies the box's size by 8 at the end: that is
    the anchor's size itself, whatever the factor in between, infinite or not. -/
theorem scale_back (e a : EReal) : e * Ideal.div a ((8 : ℝ) : EReal) * ((8 : ℝ) : EReal) = e * a := by
  rw [Ideal.div_coe (by norm_num), mul_assoc, mul_assoc, ← EReal.coe_mul]
  norm_num

end Cert.Decode

end
-- ==== Proof.Spec.lean ====
/- What both programs compute, as one formula per number of the result. The input `X` holds, for each of
   32 images and each of 3 anchors, 25 channels over a 52 × 52 grid of cells; `A` holds the width and the
   height of each anchor. Row `r` of the result is one box: anchor `r / 2704`, cell `r % 2704`, that is
   the cell in row `r % 2704 / 52` and column `r % 52` of the grid. -/
module

public import Idealize.ShloMosaic.Lib.Pointwise
public import proofs.«01_k».proof.Proof.Gen.KernelIdeal

@[expose] public section

set_option maxRecDepth 16384

noncomputable section

namespace Cert.Decode

open Idealize.ShloMosaic Cert.KernelIdeal

/-- One number of a box, from the raw prediction `v` in the same channel: channels 0 and 1 are the
    centre, the logistic function of `v` plus the cell's column or row, in pixels; channels 2 and 3 are
    the width and the height, the exponential of `v` times the anchor's; the others are probabilities, the
    logistic function of `v`. `w` and `h` are the anchor's width and height, `p` is the cell's position. -/
def decode (ch : ℕ) (v w h : EReal) (p : ℕ) : EReal :=
  if ch = 0 then (Ideal.logistic v + (((p % 52 : ℕ) : ℝ) : EReal)) * ((8 : ℝ) : EReal)
  else if ch = 1 then (Ideal.logistic v + (((p / 52 : ℕ) : ℝ) : EReal)) * ((8 : ℝ) : EReal)
  else if ch = 2 then Ideal.exp v * w
  else if ch = 3 then Ideal.exp v * h
  else Ideal.logistic v

/-- The result at image `b`, anchor `a`, cell `p`, channel `ch`. -/
def box (X : FVec Ideal S32x75x52x52 .f32) (A : FVec Ideal S3x2 .f32)
    (b : Fin 32) (a : Fin 3) (p : Fin 2704) (ch : Fin 25) : EReal :=
  decode ch.val
    (X (ix4 b ⟨a.val * 25 + ch.val, by omega⟩ ⟨p.val / 52, by omega⟩ ⟨p.val % 52, by omega⟩))
    (A (ix2 a 0)) (A (ix2 a 1)) p.val

/-- The whole result. -/
def boxes (X : FVec Ideal S32x75x52x52 .f32) (A : FVec Ideal S3x2 .f32) : FVec Ideal S32x8112x25 .f32 :=
  fun i => box X A (i 0) ⟨(i 1).val / 2704, by have : (i 1).val < 8112 := (i 1).isLt; omega⟩
    ⟨(i 1).val % 2704, by omega⟩ (i 2)

end Cert.Decode

end
-- ==== Proof.Tile.lean ====
/- What one grid point computes for one image: the 2704 × 25 tile that the body stores is `decode` at
   every cell and channel. The body repeats the same operations at each of the twelve places where it
   stores a tile, so one definition stands for them all. -/
module

public import proofs.«01_k».proof.Proof.Numbers
public import proofs.«01_k».proof.Proof.Spec
public import proofs.«01_k».proof.Proof.Gen.KernelIdeal.Skeleton
public import Idealize.ShloMosaic.Lib.Pointwise

@[expose] public section

set_option maxRecDepth 16384

noncomputable section

namespace Cert.Decode

open Idealize.ShloMosaic Idealize.ShloMosaic.TcCoe Cert.KernelIdeal Cert.KernelIdeal.Gen

/-! ## The grid of cells -/

/-- The first row of the position table: the columns of the cells. -/
theorem grid_col (p : Fin 2704) :
    k0_pay1 (F := Ideal) (ix2 0 p) = (((p.val % 52 : ℕ) : ℝ) : EReal) := by
  pointwise [k0_pay1]
  rw [row_eq p.val p.isLt, col_eq p.val p.isLt]

/-- The second row of the position table: the rows of the cells. -/
theorem grid_row (p : Fin 2704) :
    k0_pay1 (F := Ideal) (ix2 1 p) = (((p.val / 52 : ℕ) : ℝ) : EReal) := by
  pointwise [k0_pay1]
  exact row_eq p.val p.isLt

/-! ## The anchor's two numbers -/

/-- The anchor's column vector starts with its width. -/
theorem anchor_w (w h : Elt Ideal .f32) : k0_pay2 (F := Ideal) w h (ix2 0 0) = w := by
  pointwise [k0_pay2]

/-- The anchor's column vector ends with its height. -/
theorem anchor_h (w h : Elt Ideal .f32) : k0_pay2 (F := Ideal) w h (ix2 1 0) = h := by
  pointwise [k0_pay2]

/-! ## The tile -/

/-- The tile of one image and one anchor, as a function of the anchor's numbers and the 25 planes. -/
def tile (w h : Elt Ideal .f32) (x : Vec Ideal S1x25x52x52 .f32) : FVec Ideal S1x2704x25 .f32 :=
  k0_pay3 (F := Ideal) (k0_pay1 (F := Ideal)) w h x

/-- The tile at a cell and a channel is the decoded number. -/
theorem tile_at (w h : Elt Ideal .f32) (x : Vec Ideal S1x25x52x52 .f32) (p : Fin 2704) (ch : Fin 25) :
    tile w h x (ix3 0 p ch)
      = decode ch.val (x (ix4 0 ch ⟨p.val / 52, by omega⟩ ⟨p.val % 52, by omega⟩)) w h p.val := by
  obtain ⟨ch, hch⟩ := ch
  pointwise [tile, k0_pay3]
  unfold decode
  rw [ofBits_eight]
  by_cases h0 : ch = 0
  · subst h0; simp [grid_col]
  by_cases h1 : ch = 1
  · subst h1; simp [grid_row]
  by_cases h2 : ch = 2
  · subst h2; simp [anchor_w]
  by_cases h3 : ch = 3
  · subst h3; simp [anchor_h]
  have e : 4 + (ch - 2 - 2) = ch := by omega
  rw [dif_neg (by omega), dif_neg (by omega), if_neg h0, if_neg h1, if_neg h2, if_neg h3]
  simp only [e]

end Cert.Decode

end
-- ==== Proof.Block.lean ====
/- What one grid point leaves in its output block: four images times one anchor. The body branches on
   the anchor; each branch stores the four images' tiles one after another, and the four tiles fill the
   block. Whatever the branch, the block is `block` of the anchor table, the input block and the anchor. -/
module

public import proofs.«01_k».proof.Proof.Tile
public import proofs.«01_k».proof.Proof.Gen.KernelIdeal.Value
public import Idealize.ShloMosaic.Lib.Pipeline.ValueKit

@[expose] public section

set_option maxRecDepth 16384

noncomputable section

namespace Cert.Decode

open Idealize.ShloMosaic Idealize.ShloMosaic.TcCoe Idealize.SL.Sem Cert.KernelIdeal Cert.KernelIdeal.Gen
open Idealize.ShloMosaic.Pipeline (Dat)

/-- The output block of four images `X` and anchor `k` of the table `A`. -/
def block (A : FVec Ideal S3x2 .f32) (X : FVec Ideal S4x75x52x52 .f32) (k : Fin 3) : FVec Ideal S4x2704x25 .f32 :=
  fun i => decode (i 2).val
    (X (ix4 (i 0) ⟨k.val * 25 + (i 2).val, by have : (i 2).val < 25 := (i 2).isLt; omega⟩
      ⟨(i 1).val / 52, by have : (i 1).val < 2704 := (i 1).isLt; omega⟩ ⟨(i 1).val % 52, by omega⟩))
    (A (ix2 k 0)) (A (ix2 k 1)) (i 1).val

/-! ## What the body loads -/

/-- Number `j` of anchor `k`, loaded from the table. -/
def number (A : FVec Ideal S3x2 .f32) (k : Fin 3) (j : Fin 2) : Elt Ideal .f32 :=
  View.ld A (Rect.unit (s := S3x2) ![k.val, j.val] S1x1.size (by revert k j; decide))
    (Shape.Idx.first (show 0 < S1x1.numel by decide))

/-- It is the table's entry. -/
theorem number_eq (A : FVec Ideal S3x2 .f32) (k : Fin 3) (j : Fin 2) : number A k j = A (ix2 k j) := by
  unfold number
  exact View.ld_unit_apply_of _ _ _ _ _ _ (by revert k j; decide)

/-- The 25 planes of image `n` and anchor `k`, loaded from the input block. -/
def planes (X : FVec Ideal S4x75x52x52 .f32) (k : Fin 3) (n : Fin 4) : Vec Ideal S1x25x52x52 .f32 :=
  View.ld X (Rect.unit (s := S4x75x52x52) ![n.val, k.val * 25, 0, 0] S1x25x52x52.size (by revert k n; decide))

/-- At an index they are the block's planes `k * 25` to `k * 25 + 24`. -/
theorem planes_at (X : FVec Ideal S4x75x52x52 .f32) (k : Fin 3) (n : Fin 4) (ch : Fin 25) (r s : Fin 52) :
    planes X k n (ix4 0 ch r s) = X (ix4 n ⟨k.val * 25 + ch.val, by omega⟩ r s) := by
  unfold planes
  exact View.ld_unit_apply_of _ _ _ _ _ _ (fun a => by fin_cases a <;> simp)

/-! ## What the body stores -/

/-- One stored tile is one image of the block. -/
theorem tile_block (A : FVec Ideal S3x2 .f32) (X : FVec Ideal S4x75x52x52 .f32) (k : Fin 3) (n : Fin 4)
    (z : S1x2704x25.Idx) (i : S4x2704x25.Idx)
    (h0 : (i 0).val = n.val) (h1 : (i 1).val = (z 1).val) (h2 : (i 2).val = (z 2).val) :
    tile (number A k 0) (number A k 1) (planes X k n) z = block A X k i := by
  obtain rfl : i = ix3 n (z 1) (z 2) := by blk_ext
  obtain ⟨z0, p, ch, rfl⟩ : ∃ (z0 : Fin 1) (p : Fin 2704) (ch : Fin 25), z = ix3 z0 p ch :=
    ⟨z 0, z 1, z 2, by blk_ext⟩
  obtain rfl : z0 = 0 := Subsingleton.elim _ _
  rw [tile_at, number_eq, number_eq, planes_at]
  rfl

/-- The four stores of a branch, the last one first, fill the block: images 3, 2, 1 and 0. -/
theorem stores_block (A : FVec Ideal S3x2 .f32) (X : FVec Ideal S4x75x52x52 .f32) (k : Fin 3) (i : S4x2704x25.Idx) :
    View.canon (Val := Elt Ideal) (e := .f32)
      [⟨Rect.unit (s := S4x2704x25) ![3, 0, 0] S1x2704x25.size inb_S4x2704x25_S1x2704x25_3_0_0,
          tile (number A k 0) (number A k 1) (planes X k 3)⟩,
        ⟨Rect.unit (s := S4x2704x25) ![2, 0, 0] S1x2704x25.size inb_S4x2704x25_S1x2704x25_2_0_0,
          tile (number A k 0) (number A k 1) (planes X k 2)⟩,
        ⟨Rect.unit (s := S4x2704x25) ![1, 0, 0] S1x2704x25.size inb_S4x2704x25_S1x2704x25_1_0_0,
          tile (number A k 0) (number A k 1) (planes X k 1)⟩,
        ⟨Rect.unit (s := S4x2704x25) ![0, 0, 0] S1x2704x25.size inb_S4x2704x25_S1x2704x25_0_0_0,
          tile (number A k 0) (number A k 1) (planes X k 0)⟩] i
      = block A X k i := by
  canon_tiles z h
  case' piece0 => refine tile_block A X k 3 z i ?_ h1 h2
  case' piece1 => refine tile_block A X k 2 z i ?_ h1 h2
  case' piece2 => refine tile_block A X k 1 z i ?_ h1 h2
  case' piece3 => refine tile_block A X k 0 z i ?_ h1 h2
  all_goals omega

/-! ## The three branches -/

variable (m : (ℓ : Loc nD τ sig) → Buf (Elt Ideal) ℓ)

/-- What a point of the first anchor leaves. -/
theorem outs_A (c : Dev nD) (t : Fin cfg0.N) (h0 : ¬ 1 ≤ t.val % 3) (i : S4x2704x25.Idx) :
    (outsAt0 m c t.val t.isLt : FVec Ideal S4x2704x25 .f32) i = block (iblk m c 0 t) (iblk m c 1 t) 0 i := by
  rw [outsAt0_A m c t h0]
  frame_out
  exact stores_block _ _ 0 i

/-- What a point of the second anchor leaves. -/
theorem outs_B (c : Dev nD) (t : Fin cfg0.N) (h0 : 1 ≤ t.val % 3) (h1 : ¬ t.val % 3 ≠ 1) (i : S4x2704x25.Idx) :
    (outsAt0 m c t.val t.isLt : FVec Ideal S4x2704x25 .f32) i = block (iblk m c 0 t) (iblk m c 1 t) 1 i := by
  rw [outsAt0_B m c t h0 h1]
  frame_out
  exact stores_block _ _ 1 i

/-- What a point of the third anchor leaves. -/
theorem outs_C (c : Dev nD) (t : Fin cfg0.N) (h0 : 1 ≤ t.val % 3) (h1 : t.val % 3 ≠ 1) (i : S4x2704x25.Idx) :
    (outsAt0 m c t.val t.isLt : FVec Ideal S4x2704x25 .f32) i = block (iblk m c 0 t) (iblk m c 1 t) 2 i := by
  rw [outsAt0_C m c t h0 h1]
  frame_out
  exact stores_block _ _ 2 i

end Cert.Decode

end
-- ==== Proof.Array.lean ====
/- What the result array holds after the run: the 24 grid points' blocks, eight blocks of four images
   times three anchors, tile the array, and block by block it is `boxes` of the two arguments. -/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.Decode

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Grid point `t` works on the four images of block `t / 3` and on anchor `t % 3`. -/
theorem idx : ∀ t : Fin cfg0.N, win0_0.index t = ![0, 0] ∧ win0_1.index t = ![t.val / 3, 0, 0, 0]
    ∧ win0_2.index t = ![t.val / 3, t.val % 3, 0] ∧ t.val < 24 :=
  (by decide +kernel : ∀ t : Fin grid0.N, _)

/-- What a grid point leaves in its block, in one formula for the three anchors. -/
theorem outs (c : Dev nD) (t : Fin cfg0.N) (i : S4x2704x25.Idx) :
    (outsAt0 m c t.val t.isLt : FVec Ideal S4x2704x25 .f32) i
      = block (iblk m c 0 t) (iblk m c 1 t) ⟨t.val % 3, by omega⟩ i := by
  by_cases h0 : 1 ≤ t.val % 3
  · by_cases h1 : t.val % 3 ≠ 1
    · rw [outs_C m c t h0 h1]
      congr 1
      exact Fin.ext (by show 2 = t.val % 3; omega)
    · rw [outs_B m c t h0 h1]
      congr 1
      exact Fin.ext (by show 1 = t.val % 3; omega)
  · rw [outs_A m c t h0]
    congr 1
    exact Fin.ext (by show 0 = t.val % 3; omega)

/-- The block's formula over the input blocks is the result's formula at the block's place. -/
theorem block_place (c : Dev nD) (t : Fin cfg0.N) (y : S4x2704x25.Idx) (i : S32x8112x25.Idx)
    (h0 : (i 0).val = t.val / 3 * 4 + (y 0).val) (h1 : (i 1).val = t.val % 3 * 2704 + (y 1).val)
    (h2 : (i 2).val = (y 2).val) :
    block (iblk m c 0 t) (iblk m c 1 t) ⟨t.val % 3, by omega⟩ y
      = boxes (m ((c : Thread nD τ).loc main_arg0)) (m ((c : Thread nD τ).loc main_arg1)) i := by
  have hy1 : (y 1).val < 2704 := (y 1).isLt
  have hy2 : (y 2).val < 25 := (y 2).isLt
  have hp : (i 1).val % 2704 = (y 1).val := by omega
  have ha : (i 1).val / 2704 = t.val % 3 := by omega
  unfold block boxes box
  simp only [hp, ha, h2]
  congr 1
  all_goals blk_ext [iblk, V, idx t]

/-- The result array after the run. -/
theorem final (c : Dev nD) : (dats m 0 c).arrAt 2 (cfgs 0).N
    = boxes (m ((c : Thread nD τ).loc main_arg0)) (m ((c : Thread nD τ).loc main_arg1)) := by
  refine (dats m 0 c).arrAt_eq_of_covers 2 _ (by decide +kernel) fun t _ y => ?_
  blk_simp
  rw [after0_2]
  refine (outs m c t y).trans (block_place m c t y _ ?_ ?_ ?_)
  all_goals blk_simp [idx t]
  all_goals simp

end Cert.Decode

end
-- ==== Proof.Reference.lean ====
/- What the reference computes, step by step: each step of it under a name, with its value at an index. -/
module

public import proofs.«01_k».proof.Proof.Numbers
public import proofs.«01_k».proof.Proof.Gen.ReferenceIdeal.Run
public import Idealize.ShloMosaic.Lib.Pointwise

@[expose] public section

set_option maxRecDepth 16384

noncomputable section

namespace Cert.Decode.Ref

open Idealize.ShloMosaic Idealize.ShloMosaic.TcCoe Idealize.SL.Sem Cert.ReferenceIdeal Cert.ReferenceIdeal.Gen

/-! ## The raw predictions -/

/-- The raw predictions with the 75 planes split into anchor and channel, and the channel moved last. -/
def split (X : FVec Ideal S32x75x52x52 .f32) : FVec Ideal S32x3x52x52x25 .f32 :=
  transpose S32x3x52x52x25 [0, 1, 3, 4, 2]
    (shapeCast S32x3x25x52x52 X shapeCasts_S32x75x52x52_S32x3x25x52x52)
    transposes_S32x3x25x52x52_S32x3x52x52x25_0_1_3_4_2

/-- The split at an index reads plane `a * 25 + k`. -/
theorem split_at (X : FVec Ideal S32x75x52x52 .f32) (b : Fin 32) (a : Fin 3) (y x : Fin 52) (k : Fin 25) :
    split X (ix5 b a y x k) = X (ix4 b ⟨a.val * 25 + k.val, by omega⟩ y x) := by
  pointwise [split]

/-- One channel of the split. -/
def channel (k : ℕ) (h : S32x3x52x52x25.Slices ![0, 0, 0, 0, k] S32x3x52x52x1)
    (X : FVec Ideal S32x75x52x52 .f32) : FVec Ideal S32x3x52x52 .f32 :=
  shapeCast S32x3x52x52 (extractStridedSlice S32x3x52x52x1 ![0, 0, 0, 0, k] (split X) h)
    shapeCasts_S32x3x52x52x1_S32x3x52x52

/-- A channel at an index. -/
theorem channel_at (k : ℕ) (h : S32x3x52x52x25.Slices ![0, 0, 0, 0, k] S32x3x52x52x1) (hk : k < 25)
    (X : FVec Ideal S32x75x52x52 .f32) (b : Fin 32) (a : Fin 3) (y x : Fin 52) :
    channel k h X (ix4 b a y x) = X (ix4 b ⟨a.val * 25 + k, by omega⟩ y x) := by
  refine Eq.trans ?_ (split_at X b a y x ⟨k, hk⟩)
  pointwise [channel]

/-- The logistic function, spelt out by the reference. -/
def sigmoid (v : FVec Ideal S32x3x52x52 .f32) : FVec Ideal S32x3x52x52 .f32 :=
  Host.divf (broadcastInDim S32x3x52x52 ![] bcast_S_S32x3x52x52 (constant S_ .f32 0x3F800000#32))
    (addf (broadcastInDim S32x3x52x52 ![] bcast_S_S32x3x52x52 (constant S_ .f32 0x3F800000#32))
      (Host.exp (Host.negf v)))

/-- The reference's expression is the logistic function. -/
theorem sigmoid_at (v : FVec Ideal S32x3x52x52 .f32) (i : S32x3x52x52.Idx) :
    sigmoid v i = Ideal.logistic (v i) := by
  pointwise [sigmoid]
  rfl

/-! ## The cells' columns and rows, and the anchors' sizes -/

/-- The table of columns: entry (row, column) is the column. -/
def cols : FVec Ideal S52x52 .f32 :=
  shapeCast S52x52
    (broadcastInDim S52x1x1x52 ![0, 1, 2, 3] bcast_S1x1x1x52_S52x1x1x52_0_1_2_3
      (shapeCast S1x1x1x52 (shapeCast S1x52 (sitofp .f32 (iotaInDim S52 32 0)) shapeCasts_S52_S1x52)
        shapeCasts_S1x52_S1x1x1x52))
    shapeCasts_S52x1x1x52_S52x52

/-- The table of columns at an index. -/
theorem cols_at (y x : Fin 52) : cols (ix2 y x) = ((x.val : ℝ) : EReal) := by
  pointwise [cols]
  exact sitofp_nat x.val (by omega)

/-- A table over the cells, repeated for every image and anchor. -/
def spread (g : FVec Ideal S52x52 .f32) : FVec Ideal S32x3x52x52 .f32 :=
  broadcastInDim S32x3x52x52 ![0, 1, 2, 3] bcast_S1x1x52x52_S32x3x52x52_0_1_2_3
    (shapeCast S1x1x52x52 g shapeCasts_S52x52_S1x1x52x52)

/-- A repeated table at an index. -/
theorem spread_at (g : FVec Ideal S52x52 .f32) (b : Fin 32) (a : Fin 3) (y x : Fin 52) :
    spread g (ix4 b a y x) = g (ix2 y x) := by
  pointwise [spread]

/-- The table of rows is the table of columns transposed. -/
def rows : FVec Ideal S52x52 .f32 := transpose S52x52 [1, 0] cols transposes_S52x52_S52x52_1_0

/-- The table of rows at an index. -/
theorem rows_at (y x : Fin 52) : rows (ix2 y x) = ((y.val : ℝ) : EReal) := by
  refine Eq.trans ?_ (cols_at x y)
  pointwise [rows]

/-- One number of every anchor, divided by 8 and repeated for every image and cell. -/
def anchor (k : ℕ) (h : S3x2.Slices ![0, k] S3x1) (A : FVec Ideal S3x2 .f32) : FVec Ideal S32x3x52x52 .f32 :=
  broadcastInDim S32x3x52x52 ![0, 1, 2, 3] bcast_S1x3x1x1_S32x3x52x52_0_1_2_3
    (shapeCast S1x3x1x1
      (shapeCast S3
        (extractStridedSlice S3x1 ![0, k]
          (Host.divf A (broadcastInDim S3x2 ![] bcast_S_S3x2 (constant S_ .f32 0x41000000#32))) h)
        shapeCasts_S3x1_S3)
      shapeCasts_S3_S1x3x1x1)

/-- An anchor's number at an index. -/
theorem anchor_at (k : ℕ) (h : S3x2.Slices ![0, k] S3x1) (hk : k < 2) (A : FVec Ideal S3x2 .f32)
    (b : Fin 32) (a : Fin 3) (y x : Fin 52) :
    anchor k h A (ix4 b a y x) = Ideal.div (A (ix2 a ⟨k, hk⟩)) ((8 : ℝ) : EReal) := by
  rw [← ofBits_eight]
  pointwise [anchor]

/-! ## The parts of the result -/

/-- A unit axis is added at the end. -/
def last (v : FVec Ideal S32x3x52x52 .f32) : FVec Ideal S32x3x52x52x1 .f32 :=
  broadcastInDim S32x3x52x52x1 ![0, 1, 2, 3] bcast_S32x3x52x52_S32x3x52x52x1_0_1_2_3 v

/-- Four arrays become the first four channels of the boxes, times 8. -/
def four (v : Fin 4 → FVec Ideal S32x3x52x52 .f32) : FVec Ideal S32x8112x4 .f32 :=
  mulf
    (shapeCast S32x8112x4
      (concatenate S32x3x52x52x4 4
        [⟨S32x3x52x52x1, last (v 0)⟩, ⟨S32x3x52x52x1, last (v 1)⟩, ⟨S32x3x52x52x1, last (v 2)⟩,
          ⟨S32x3x52x52x1, last (v 3)⟩]
        concatenates_S32x3x52x52x1_S32x3x52x52x1_S32x3x52x52x1_S32x3x52x52x1_S32x3x52x52x4_d4)
      shapeCasts_S32x3x52x52x4_S32x8112x4)
    (broadcastInDim S32x8112x4 ![] bcast_S_S32x8112x4 (constant S_ .f32 0x41000000#32))

/-- The place of box `r` of image `b`: its anchor, its row and its column. -/
abbrev cell (b : Fin 32) (r : Fin 8112) : S32x3x52x52.Idx :=
  ix4 b ⟨r.val / 2704, by omega⟩ ⟨r.val / 52 % 52, by omega⟩ ⟨r.val % 52, by omega⟩

/-- The first four channels at an index. -/
theorem four_at (v : Fin 4 → FVec Ideal S32x3x52x52 .f32) (b : Fin 32) (r : Fin 8112) (k : Fin 4) :
    four v (ix3 b r k) = v k (cell b r) * ((8 : ℝ) : EReal) := by
  rw [← ofBits_eight]
  fin_cases k <;> pointwise [four, last]

/-- The confidence, as the fifth channel. -/
def conf (v : FVec Ideal S32x3x52x52 .f32) : FVec Ideal S32x8112x1 .f32 :=
  shapeCast S32x8112x1 (sigmoid v) shapeCasts_S32x3x52x52_S32x8112x1

/-- The fifth channel at an index. -/
theorem conf_at (v : FVec Ideal S32x3x52x52 .f32) (b : Fin 32) (r : Fin 8112) :
    conf v (ix3 b r 0) = Ideal.logistic (v (cell b r)) := by
  rw [← sigmoid_at]
  pointwise [conf]

/-- The twenty class probabilities, as the last channels. -/
def classes (X : FVec Ideal S32x75x52x52 .f32) : FVec Ideal S32x8112x20 .f32 :=
  shapeCast S32x8112x20
    (Host.divf (broadcastInDim S32x3x52x52x20 ![] bcast_S_S32x3x52x52x20 (constant S_ .f32 0x3F800000#32))
      (addf (broadcastInDim S32x3x52x52x20 ![] bcast_S_S32x3x52x52x20 (constant S_ .f32 0x3F800000#32))
        (Host.exp (Host.negf
          (extractStridedSlice S32x3x52x52x20 ![0, 0, 0, 0, 5] (split X)
            slices_S32x3x52x52x25_S32x3x52x52x20_0_0_0_0_5)))))
    shapeCasts_S32x3x52x52x20_S32x8112x20

/-- The last channels at an index. -/
theorem classes_at (X : FVec Ideal S32x75x52x52 .f32) (b : Fin 32) (r : Fin 8112) (k : Fin 20) :
    classes X (ix3 b r k)
      = Ideal.logistic (X (ix4 b ⟨r.val / 2704 * 25 + (5 + k.val), by omega⟩
          ⟨r.val / 52 % 52, by omega⟩ ⟨r.val % 52, by omega⟩)) := by
  rw [← split_at X b ⟨r.val / 2704, by omega⟩ ⟨r.val / 52 % 52, by omega⟩ ⟨r.val % 52, by omega⟩
    ⟨5 + k.val, by omega⟩]
  pointwise [classes]
  rfl

/-- The reference's result, from its parts. -/
def result (X : FVec Ideal S32x75x52x52 .f32) (A : FVec Ideal S3x2 .f32) : FVec Ideal S32x8112x25 .f32 :=
  concatenate S32x8112x25 2
    [⟨S32x8112x4, four
        ![addf (sigmoid (channel 0 slices_S32x3x52x52x25_S32x3x52x52x1_0_0_0_0_0 X)) (spread cols),
          addf (sigmoid (channel 1 slices_S32x3x52x52x25_S32x3x52x52x1_0_0_0_0_1 X)) (spread rows),
          mulf (Host.exp (channel 2 slices_S32x3x52x52x25_S32x3x52x52x1_0_0_0_0_2 X)) (anchor 0 slices_S3x2_S3x1_0_0 A),
          mulf (Host.exp (channel 3 slices_S32x3x52x52x25_S32x3x52x52x1_0_0_0_0_3 X)) (anchor 1 slices_S3x2_S3x1_0_1 A)]⟩,
     ⟨S32x8112x1, conf (channel 4 slices_S32x3x52x52x25_S32x3x52x52x1_0_0_0_0_4 X)⟩,
     ⟨S32x8112x20, classes X⟩]
    concatenates_S32x8112x4_S32x8112x1_S32x8112x20_S32x8112x25_d2

/-- The reference's run ends with `result` of the two arguments. -/
theorem res_eq (m : (ℓ : Loc nD τ sig) → Buf (Elt Ideal) ℓ) (c : Dev nD) :
    Cert.ReferenceIdeal.Value.res_main_v78 m c
      = result (m ((c.tc : Thread nD τ).loc main_arg0)) (m ((c.tc : Thread nD τ).loc main_arg1)) := rfl

end Cert.Decode.Ref

end
-- ==== Proof.Equation.lean ====
/- The equation: the reference's result is `boxes` of the same two arguments. -/
module

public import proofs.«01_k».proof.Proof.Spec
public import proofs.«01_k».proof.Proof.Reference
public import Idealize.ShloMosaic.Lib.Pipeline.ValueKit

@[expose] public section

set_option maxRecDepth 16384

noncomputable section

namespace Cert.Decode.Ref

open Idealize.ShloMosaic Idealize.ShloMosaic.TcCoe Idealize.SL.Sem Cert.ReferenceIdeal Cert.ReferenceIdeal.Gen

/-- The position of a box within its anchor has the box's own row. -/
theorem row_of (r : ℕ) : r % 2704 / 52 = r / 52 % 52 := by omega

/-- The position of a box within its anchor has the box's own column. -/
theorem col_of (r : ℕ) : r % 2704 % 52 = r % 52 := by omega

/-- A coordinate of the centre: the logistic function plus the entry `g` of a table over the cells. -/
theorem centre_at (k : ℕ) (h : S32x3x52x52x25.Slices ![0, 0, 0, 0, k] S32x3x52x52x1) (hk : k < 25)
    (X : FVec Ideal S32x75x52x52 .f32) (tab : FVec Ideal S52x52 .f32) (b : Fin 32) (r : Fin 8112) (g : EReal)
    (hg : tab (ix2 ⟨r.val / 52 % 52, by omega⟩ ⟨r.val % 52, by omega⟩) = g) :
    addf (sigmoid (channel k h X)) (spread tab) (cell b r) * ((8 : ℝ) : EReal)
      = (Ideal.logistic (X (ix4 b ⟨r.val / 2704 * 25 + k, by omega⟩ ⟨r.val / 52 % 52, by omega⟩
          ⟨r.val % 52, by omega⟩)) + g) * ((8 : ℝ) : EReal) := by
  rw [addf_apply, sigmoid_at, channel_at k h hk, spread_at, hg]
  rfl

/-- A size: the exponential times the anchor's size, which is first divided and then multiplied by 8. -/
theorem size_at (k : ℕ) (h : S32x3x52x52x25.Slices ![0, 0, 0, 0, k] S32x3x52x52x1) (hk : k < 25)
    (n : ℕ) (hs : S3x2.Slices ![0, n] S3x1) (hn : n < 2)
    (X : FVec Ideal S32x75x52x52 .f32) (A : FVec Ideal S3x2 .f32) (b : Fin 32) (r : Fin 8112) :
    mulf (Host.exp (channel k h X)) (anchor n hs A) (cell b r) * ((8 : ℝ) : EReal)
      = Ideal.exp (X (ix4 b ⟨r.val / 2704 * 25 + k, by omega⟩ ⟨r.val / 52 % 52, by omega⟩
          ⟨r.val % 52, by omega⟩)) * A (ix2 ⟨r.val / 2704, by omega⟩ ⟨n, hn⟩) := by
  refine Eq.trans ?_ (scale_back _ _)
  show Ideal.exp (channel k h X (cell b r)) * anchor n hs A (cell b r) * ((8 : ℝ) : EReal) = _
  rw [channel_at k h hk, anchor_at n hs hn]

/-- The reference's result at an index is the decoded number. -/
theorem result_at (X : FVec Ideal S32x75x52x52 .f32) (A : FVec Ideal S3x2 .f32)
    (b : Fin 32) (r : Fin 8112) (ch : Fin 25) :
    result X A (ix3 b r ch) = box X A b ⟨r.val / 2704, by omega⟩ ⟨r.val % 2704, by omega⟩ ch := by
  unfold box decode
  simp only [row_of, col_of]
  obtain ⟨ch, hch⟩ := ch
  pointwise [result]
  by_cases h0 : ch = 0
  · subst h0
    simp only [Nat.ofNat_pos, dite_true, if_true, Fin.zero_eta]
    exact (four_at _ b r 0).trans (centre_at 0 _ (by decide) X cols b r _ (cols_at _ _))
  by_cases h1 : ch = 1
  · subst h1
    simp only [Nat.one_lt_ofNat, dite_true, if_true, if_neg h0, Fin.mk_one]
    exact (four_at _ b r 1).trans (centre_at 1 _ (by decide) X rows b r _ (rows_at _ _))
  by_cases h2 : ch = 2
  · subst h2
    simp only [Nat.reduceLT, dite_true, if_true, if_neg h0, if_neg h1, Fin.reduceFinMk]
    exact (four_at _ b r 2).trans (size_at 2 _ (by decide) 0 _ (by decide) X A b r)
  by_cases h3 : ch = 3
  · subst h3
    simp only [Nat.reduceLT, dite_true, if_true, if_neg h0, if_neg h1, if_neg h2, Fin.reduceFinMk]
    exact (four_at _ b r 3).trans (size_at 3 _ (by decide) 1 _ (by decide) X A b r)
  rw [dif_neg (by omega), if_neg h0, if_neg h1, if_neg h2, if_neg h3]
  by_cases h4 : ch = 4
  · subst h4
    rw [dif_pos (by decide)]
    exact (conf_at _ b r).trans (congrArg Ideal.logistic (channel_at 4 _ (by decide) X b _ _ _))
  rw [dif_neg (by omega)]
  have e : 5 + (ch - 4 - 1) = ch := by omega
  refine (classes_at X b r _).trans ?_
  simp only [e]

/-- The reference's whole result. -/
theorem result_eq (X : FVec Ideal S32x75x52x52 .f32) (A : FVec Ideal S3x2 .f32) : result X A = boxes X A := by
  funext i
  obtain ⟨b, r, ch, rfl⟩ : ∃ (b : Fin 32) (r : Fin 8112) (ch : Fin 25), i = ix3 b r ch :=
    ⟨i 0, i 1, i 2, by blk_ext⟩
  exact result_at X A b r ch

end Cert.Decode.Ref

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Array
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to the end and leaves its arguments as they were. -/
theorem frame_kernel : Cert.quiescent_Kernel (hKernel := Cert.Kernel.Gen.facts) :=
  fun m ρ _ => Cert.Kernel.Gen.frame m ρ

/-- So does the idealized kernel. -/
theorem frame_ideal : Cert.quiescent_KernelIdeal (hKernelIdeal := Cert.KernelIdeal.Gen.facts) :=
  fun m ρ _ => Cert.KernelIdeal.Gen.frame m ρ

/-- So does the reference, which has no semaphores. -/
theorem frame_reference : Cert.quiescent_ReferenceIdeal (hReferenceIdeal := Cert.ReferenceIdeal.Gen.facts) :=
  fun m ρ _ => (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- The idealized kernel computes what the reference computes: `boxes` of the two arguments. -/
theorem equal : Cert.algebraic_KernelIdeal_ReferenceIdeal
    (hKernelIdeal := Cert.KernelIdeal.Gen.facts) (hReferenceIdeal := Cert.ReferenceIdeal.Gen.facts) := by
  intro m g m' g' _ hag
  refine ⟨fun c => Cert.Decode.boxes (m ((c.tc : Thread _ Cert.KernelIdeal.τ).loc Cert.KernelIdeal.main_arg0))
    (m ((c.tc : Thread _ Cert.KernelIdeal.τ).loc Cert.KernelIdeal.main_arg1)), ?_, ?_⟩
  · refine (θ_run Cert.KernelIdeal.defs _ _).mono (fun r h c => ⟨?_, (h c).2.1, (h c).2.2⟩)
      (Cert.KernelIdeal.Value.run_blocks (F := Ideal) m g)
    exact (h c).1.trans (Cert.Decode.final m c)
  · refine (θ_run Cert.ReferenceIdeal.defs _ _).mono (fun r h c => ⟨?_, (h c).2.1, (h c).2.2⟩)
      (Cert.ReferenceIdeal.Value.run (F := Ideal) m' g')
    rw [(h c).1, Cert.Decode.Ref.res_eq, (hag c).1, (hag c).2]
    exact Cert.Decode.Ref.result_eq _ _

theorem claim : Cert.Claim :=
  ⟨Cert.Kernel.Gen.facts, Cert.KernelIdeal.Gen.facts, Cert.ReferenceIdeal.Gen.facts,
    frame_kernel, frame_ideal, frame_reference, trivial, equal⟩

end Cert.Proof

end
